-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v33) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x1024x64 : Shape := ⟨3, ![16, 1024, 64]⟩
abbrev S1024x64 : Shape := ⟨2, ![1024, 64]⟩
abbrev S_ : Shape := ⟨0, ![]⟩

class Facts : Prop where
  bcast_S_S16x1024x64 : S_.BroadcastsInDim S16x1024x64 (![] : Fin 0 → Fin S16x1024x64.rank)
  reducesTo_S16x1024x64_S_d0_1_2 : S16x1024x64.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S16x1024x64 .f32) (main_arg1 : FVec F S1024x64 .f32) : IVec S_ 1 :=
  let main_v0 : FVec F S16x1024x64 .f32 := Host.absf main_arg0
  let main_cst : FVec F S_ .f32 := constant S_ .f32 0x7F800000#32
  let main_v1 : FVec F S16x1024x64 .f32 := broadcastInDim S16x1024x64 ![] bcast_S_S16x1024x64 main_cst
  let main_v2 : IVec S16x1024x64 1 := cmpf .olt main_v0 main_v1
  let main_c : IVec S_ 1 := constantI S_ 1 1#1
  let main_v3 : IVec S_ 1 := (fun x v => Host.reduce IntOp.andi x v reducesTo_S16x1024x64_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  main_v8
-- ==== Kernel.lean ====
abbrev S16x1024x64 : Shape := ⟨3, ![16, 1024, 64]⟩
abbrev S1024x64 : Shape := ⟨2, ![1024, 64]⟩
abbrev S16384x64 : Shape := ⟨2, ![16384, 64]⟩
abbrev S16384x1 : Shape := ⟨2, ![16384, 1]⟩
abbrev S1x1 : Shape := ⟨2, ![1, 1]⟩
abbrev S4096x64 : Shape := ⟨2, ![4096, 64]⟩
abbrev S4096x1 : Shape := ⟨2, ![4096, 1]⟩
abbrev S1x1024 : Shape := ⟨2, ![1, 1024]⟩
abbrev S64x1024 : Shape := ⟨2, ![64, 1024]⟩
abbrev S1024 : Shape := ⟨1, ![1024]⟩
abbrev S4096x1024 : Shape := ⟨2, ![4096, 1024]⟩
abbrev S4096 : Shape := ⟨1, ![4096]⟩
abbrev S1x4096x1 : Shape := ⟨3, ![1, 4096, 1]⟩
abbrev S1 : Shape := ⟨1, ![1]⟩
abbrev S1x1x1 : Shape := ⟨3, ![1, 1, 1]⟩
abbrev S1x1x1024 : Shape := ⟨3, ![1, 1, 1024]⟩
abbrev S_ : Shape := ⟨0, ![]⟩
abbrev S16384 : Shape := ⟨1, ![16384]⟩

abbrev nBuf : Space → Nat
  | .hbm => 9
  | .vmem => 10
  | .smem => 3
  | _ => 0

abbrev bufTy : (tb : Table) → Fin (tcTables nBuf tb) → BufTy
  | .hbm, ⟨0, _⟩ => ⟨S16x1024x64, .f32⟩
  | .hbm, ⟨1, _⟩ => ⟨S1024x64, .f32⟩
  | .hbm, ⟨2, _⟩ => ⟨S16384x64, .f32⟩
  | .hbm, ⟨3, _⟩ => ⟨S16384x1, .i32⟩
  | .hbm, ⟨4, _⟩ => ⟨S1x1, .f32⟩
  | .hbm, ⟨5, _⟩ => ⟨S1x1, .f32⟩
  | .hbm, ⟨6, _⟩ => ⟨S_, .f32⟩
  | .hbm, ⟨7, _⟩ => ⟨S16384, .i32⟩
  | .hbm, ⟨8, _⟩ => ⟨S_, .f32⟩
  | .local _ .vmem, ⟨0, _⟩ => ⟨S4096x64, .f32⟩
  | .local _ .vmem, ⟨1, _⟩ => ⟨S4096x64, .f32⟩
  | .local _ .vmem, ⟨2, _⟩ => ⟨S1024x64, .f32⟩
  | .local _ .vmem, ⟨3, _⟩ => ⟨S4096x1, .i32⟩
  | .local _ .vmem, ⟨4, _⟩ => ⟨S4096x1, .i32⟩
  | .local _ .vmem, ⟨5, _⟩ => ⟨S1x1024, .f32⟩
  | .local _ .vmem, ⟨6, _⟩ => ⟨S64x1024, .f32⟩
  | .local _ .vmem, ⟨7, _⟩ => ⟨S1x1024, .f32⟩
  | .local _ .vmem, ⟨8, _⟩ => ⟨S1x1024, .f32⟩
  | .local _ .vmem, ⟨9, _⟩ => ⟨S4096x64, .f32⟩
  | .local _ .smem, ⟨0, _⟩ => ⟨S1x1, .f32⟩
  | .local _ .smem, ⟨1, _⟩ => ⟨S1x1, .f32⟩
  | .local _ .smem, ⟨2, _⟩ => ⟨S1x1, .f32⟩
  | _, _ => ⟨S16x1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_stg3_0 : Ref sig .tc := ⟨.smem, 0, rfl⟩
abbrev cc0_stg4_0 : Ref sig .tc := ⟨.smem, 1, rfl⟩
abbrev cc0_scratch1 : Ref sig .tc := ⟨.smem, 2, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v53 : BitVec 1 := Scalar.cmpi .eq arg0 c3_i32
  let v54 : BitVec 32 := Scalar.extui v53
  let c0_i32_31 : BitVec 32 := 0#32
  let v55 : BitVec 1 := Scalar.cmpi .ne v54 c0_i32_31
  v55

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S16x1024x64 : Shape := ⟨3, ![16, 1024, 64]⟩
abbrev S1024x64 : Shape := ⟨2, ![1024, 64]⟩
abbrev S16384x64 : Shape := ⟨2, ![16384, 64]⟩
abbrev S_ : Shape := ⟨0, ![]⟩
abbrev S16384 : Shape := ⟨1, ![16384]⟩
abbrev S16384x1 : Shape := ⟨2, ![16384, 1]⟩
abbrev S1024 : Shape := ⟨1, ![1024]⟩
abbrev S1x1024 : Shape := ⟨2, ![1, 1024]⟩
abbrev S16384x1024 : Shape := ⟨2, ![16384, 1024]⟩
abbrev S64x1024 : Shape := ⟨2, ![64, 1024]⟩

abbrev nBuf : Space → Nat
  | .hbm => 55
  | .vmem => 0
  | .smem => 0
  | _ => 0

abbrev bufTy : (tb : Table) → Fin (tcTables nBuf tb) → BufTy
  | .hbm, ⟨0, _⟩ => ⟨S16x1024x64, .f32⟩
  | .hbm, ⟨1, _⟩ => ⟨S1024x64, .f32⟩
  | .hbm, ⟨2, _⟩ => ⟨S16384x64, .f32⟩
  | .hbm, ⟨3, _⟩ => ⟨S16384x64, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S64x1024, .f32⟩
  | .hbm, ⟨15, _⟩ => ⟨S16384x1024, .f32⟩
  | .hbm, ⟨16, _⟩ => ⟨S_, .f32⟩
  | .hbm, ⟨17, _⟩ => ⟨S16384x1024, .f32⟩
  | .hbm, ⟨18, _⟩ => ⟨S16384x1024, .f32⟩
  | .hbm, ⟨19, _⟩ => ⟨S16384x1024, .f32⟩
  | .hbm, ⟨20, _⟩ => ⟨S16384x1024, .i32⟩
  | .hbm, ⟨21, _⟩ => ⟨S_, .f32⟩
  | .hbm, ⟨22, _⟩ => ⟨S_, .i32⟩
  | .hbm, ⟨23, _⟩ => ⟨S16384, .f32⟩
  | .hbm, ⟨24, _⟩ => ⟨S16384, .i32⟩
  | .hbm, ⟨25, _⟩ => ⟨S16384x1, .i32⟩
  | .hbm, ⟨26, _⟩ => ⟨S1x1024, .i32⟩
  | .hbm, ⟨27, _⟩ => ⟨S16384x1024, .i32⟩
  | .hbm, ⟨28, _⟩ => ⟨S16384x1024, .i32⟩
  | .hbm, ⟨29, _⟩ => ⟨S16384x1024, .i1⟩
  | .hbm, ⟨30, _⟩ => ⟨S16384x1024, .f32⟩
  | .hbm, ⟨31, _⟩ => ⟨S16384x64, .f32⟩
  | .hbm, ⟨32, _⟩ => ⟨S16x1024x64, .f32⟩
  | .hbm, ⟨33, _⟩ => ⟨S16x1024x64, .f32⟩
  | .hbm, ⟨34, _⟩ => ⟨S16x1024x64, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S1024, .f32⟩
  | .hbm, ⟨45, _⟩ => ⟨S1024, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S16x1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_cst_4 : Ref sig .tc := ⟨.hbm, 39, rfl⟩
abbrev main_v23 : Ref sig .tc := ⟨.hbm, 40, rfl⟩
abbrev main_cst_5 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== Proof.Point.lean ====
/-
  What one grid point leaves in each output block and in each carried scratch buffer, in terms of the point's
  input blocks and of what the point before left: the found pieces of the three cases (the first point, a middle one, the
  last one) read back as values, for any float values.
-/
module

public import proofs.«01_k».proof.Proof.Gen.KernelIdeal.Frame
public import Idealize.ShloMosaic.Lib.Pipeline.Value
public import Idealize.ShloMosaic.Lib.ValueIdxCore

@[expose] public section

noncomputable section

namespace Cert.Proof.Point

open Cert.KernelIdeal Cert.KernelIdeal.Gen
open Idealize.ShloMosaic Idealize.ShloMosaic.ValueIdx Idealize.ShloMosaic.TcCoe Idealize.SL.Sem

variable {F : FTy → Type} [FloatOps F]

/-- The offsets of a whole two-axis block are zero. -/
theorem off_zero : (![0, 0] : Fin 2 → Nat) = fun _ => 0 := by
  funext a; fin_cases a <;> rfl

/-- A load of a one-element block reads its element. -/
theorem ld_scalar (s1 : Vec F S1x1 .f32) (j : (Rect.unit (s := S1x1) ![0, 0] ![1, 1] inb_S1x1_S1x1_0_0).shape.Idx) :
    View.ld s1 (Rect.unit (s := S1x1) ![0, 0] ![1, 1] inb_S1x1_S1x1_0_0) j = s1 (ix2 0 0) := by
  show s1 _ = s1 _
  congr 1
  funext a
  fin_cases a <;> exact Subsingleton.elim (α := Fin 1) _ _

section
variable (c : Dev nD) (i : grid0.Coords)
  (arg1 : Memref sig .tc .vmem S4096x64 .f32) (harg1 : arg1.IsWhole)
  (arg2 : Memref sig .tc .vmem S1024x64 .f32) (harg2 : arg2.IsWhole)
  (arg3 : Memref sig .tc .vmem S4096x1 .i32) (harg3 : arg3.IsWhole)
  (arg4 : Memref sig .tc .smem S1x1 .f32) (harg4 : arg4.IsWhole)
  (arg5 : Memref sig .tc .smem S1x1 .f32) (harg5 : arg5.IsWhole)
  (arg6 : Memref sig .tc .vmem S1x1024 .f32) (harg6 : arg6.IsWhole)
  (arg7 : Memref sig .tc .smem S1x1 .f32) (harg7 : arg7.IsWhole)
  (arg8 : Memref sig .tc .vmem S64x1024 .f32) (harg8 : arg8.IsWhole)
  (arg9 : Memref sig .tc .vmem S1x1024 .f32) (harg9 : arg9.IsWhole)
  (arg10 : Memref sig .tc .vmem S1x1024 .f32) (harg10 : arg10.IsWhole)
  (arg11 : Memref sig .tc .vmem S4096x64 .f32) (harg11 : arg11.IsWhole)

/-- The first point's block of indices. -/
theorem index_A (hc0 : cond0_0 i) (hc1 : ¬cond0_1 i) (x0 : Vec F S4096x64 .f32) (x1 : Vec F S1024x64 .f32) :
    out0_A_2 c i arg1 harg1 arg2 harg2 arg3 harg3 arg4 harg4 arg5 harg5 arg6 harg6 arg7 harg7 arg8 harg8 arg9 harg9 arg10 harg10 arg11 harg11 hc0 hc1 x0 x1
      = k0_pay14 x0 (k0_pay8 x1) (k0_pay9 x1) k0_pay10 := by
  unfold out0_A_2
  rw [View.read_writes_eq_canon _ _ _ (cover0_A_2 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]

/-- The counts after the first point: its one-hot rows added to zero. -/
theorem count_A (hc0 : cond0_0 i) (hc1 : ¬cond0_1 i) (x0 : Vec F S4096x64 .f32) (x1 : Vec F S1024x64 .f32) :
    sout0_A_0 c i arg1 harg1 arg2 harg2 arg3 harg3 arg4 harg4 arg5 harg5 arg6 harg6 arg7 harg7 arg8 harg8 arg9 harg9 arg10 harg10 arg11 harg11 hc0 hc1 x0 x1
      = k0_pay3 (k0_pay15 x0 (k0_pay8 x1) (k0_pay9 x1) k0_pay10) k0_pay6 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]

/-- The sum of the least distances after the first point. -/
theorem acc_A (hc0 : cond0_0 i) (hc1 : ¬cond0_1 i) (x0 : Vec F S4096x64 .f32) (x1 : Vec F S1024x64 .f32) :
    sout0_A_1 c i arg1 harg1 arg2 harg2 arg3 harg3 arg4 harg4 arg5 harg5 arg6 harg6 arg7 harg7 arg8 harg8 arg9 harg9 arg10 harg10 arg11 harg11 hc0 hc1 x0 x1
      = fun _ => k0_pay2 (k0_pay12 x0 (k0_pay8 x1) (k0_pay9 x1)) (Scalar.ofBits .f32 0x00000000#32) := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]
  rfl
/-- The codebook, transposed and times minus two, as the first point leaves it. -/
theorem wt2_A (hc0 : cond0_0 i) (hc1 : ¬cond0_1 i) (x0 : Vec F S4096x64 .f32) (x1 : Vec F S1024x64 .f32) :
    sout0_A_2 c i arg1 harg1 arg2 harg2 arg3 harg3 arg4 harg4 arg5 harg5 arg6 harg6 arg7 harg7 arg8 harg8 arg9 harg9 arg10 harg10 arg11 harg11 hc0 hc1 x0 x1
      = k0_pay8 x1 := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]

/-- The codebook's squared norms, as the first point leaves them. -/
theorem wsq_A (hc0 : cond0_0 i) (hc1 : ¬cond0_1 i) (x0 : Vec F S4096x64 .f32) (x1 : Vec F S1024x64 .f32) :
    sout0_A_3 c i arg1 harg1 arg2 harg2 arg3 harg3 arg4 harg4 arg5 harg5 arg6 harg6 arg7 harg7 arg8 harg8 arg9 harg9 arg10 harg10 arg11 harg11 hc0 hc1 x0 x1
      = k0_pay9 x1 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]

/-- The row of column numbers, as the first point leaves it. -/
theorem iotaf_A (hc0 : cond0_0 i) (hc1 : ¬cond0_1 i) (x0 : Vec F S4096x64 .f32) (x1 : Vec F S1024x64 .f32) :
    sout0_A_4 c i arg1 harg1 arg2 harg2 arg3 harg3 arg4 harg4 arg5 harg5 arg6 harg6 arg7 harg7 arg8 harg8 arg9 harg9 arg10 harg10 arg11 harg11 hc0 hc1 x0 x1
      = k0_pay10 := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]

/-- A middle point's block of indices. -/
theorem index_B (hc0 : ¬cond0_0 i) (hc1 : ¬cond0_1 i) (x0 : Vec F S4096x64 .f32) (x1 : Vec F S1024x64 .f32)
    (s0 : Vec F S1x1024 .f32) (s1 : Vec F S1x1 .f32) (s2 : Vec F S64x1024 .f32) (s3 : Vec F S1x1024 .f32) (s4 : Vec F S1x1024 .f32) :
    out0_B_2 c i arg1 harg1 arg2 harg2 arg3 harg3 arg4 harg4 arg5 harg5 arg6 harg6 arg7 harg7 arg8 harg8 arg9 harg9 arg10 harg10 arg11 harg11 hc0 hc1 x0 x1 s0 s1 s2 s3 s4
      = k0_pay14 x0 s2 s3 s4 := by
  unfold out0_B_2
  rw [View.read_writes_eq_canon _ _ _ (cover0_B_2 c i arg1 harg1 arg2 harg2 arg3 harg3 arg4 harg4 arg5 harg5 arg6 harg6 arg7 harg7 arg8 harg8 arg9 harg9 arg10 harg10 arg11 harg11 hc0 hc1 x0 x1 s0 s1 s2 s3 s4)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]

/-- The counts after a middle point. -/
theorem count_B (hc0 : ¬cond0_0 i) (hc1 : ¬cond0_1 i) (x0 : Vec F S4096x64 .f32) (x1 : Vec F S1024x64 .f32)
    (s0 : Vec F S1x1024 .f32) (s1 : Vec F S1x1 .f32) (s2 : Vec F S64x1024 .f32) (s3 : Vec F S1x1024 .f32) (s4 : Vec F S1x1024 .f32) :
    sout0_B_0 c i arg1 harg1 arg2 harg2 arg3 harg3 arg4 harg4 arg5 harg5 arg6 harg6 arg7 harg7 arg8 harg8 arg9 harg9 arg10 harg10 arg11 harg11 hc0 hc1 x0 x1 s0 s1 s2 s3 s4
      = k0_pay3 (k0_pay15 x0 s2 s3 s4) s0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 hc0 hc1 x0 x1 s0 s1 s2 s3 s4)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]

/-- The sum of the least distances after a middle point. -/
theorem acc_B (hc0 : ¬cond0_0 i) (hc1 : ¬cond0_1 i) (x0 : Vec F S4096x64 .f32) (x1 : Vec F S1024x64 .f32)
    (s0 : Vec F S1x1024 .f32) (s1 : Vec F S1x1 .f32) (s2 : Vec F S64x1024 .f32) (s3 : Vec F S1x1024 .f32) (s4 : Vec F S1x1024 .f32) :
    sout0_B_1 c i arg1 harg1 arg2 harg2 arg3 harg3 arg4 harg4 arg5 harg5 arg6 harg6 arg7 harg7 arg8 harg8 arg9 harg9 arg10 harg10 arg11 harg11 hc0 hc1 x0 x1 s0 s1 s2 s3 s4
      = fun _ => k0_pay2 (k0_pay12 x0 s2 s3) (s1 (ix2 0 0)) := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 hc0 hc1 x0 x1 s0 s1 s2 s3 s4)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]
  exact congrArg (fun e => fun _ => k0_pay2 (k0_pay12 x0 s2 s3) e) (ld_scalar s1 _)
/-- The last point's block of indices. -/
theorem index_C (hc0 : ¬cond0_0 i) (hc1 : cond0_1 i) (x0 : Vec F S4096x64 .f32) (x1 : Vec F S1024x64 .f32)
    (s0 : Vec F S1x1024 .f32) (s1 : Vec F S1x1 .f32) (s2 : Vec F S64x1024 .f32) (s3 : Vec F S1x1024 .f32) (s4 : Vec F S1x1024 .f32) :
    out0_C_2 c i arg1 harg1 arg2 harg2 arg3 harg3 arg4 harg4 arg5 harg5 arg6 harg6 arg7 harg7 arg8 harg8 arg9 harg9 arg10 harg10 arg11 harg11 hc0 hc1 x0 x1 s0 s1 s2 s3 s4
      = k0_pay14 x0 s2 s3 s4 := by
  unfold out0_C_2
  rw [View.read_writes_eq_canon _ _ _ (cover0_C_2 c i arg1 harg1 arg2 harg2 arg3 harg3 arg4 harg4 arg5 harg5 arg6 harg6 arg7 harg7 arg8 harg8 arg9 harg9 arg10 harg10 arg11 harg11 hc0 hc1 x0 x1 s0 s1 s2 s3 s4)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]

/-- The counts after the last point. -/
theorem count_C (hc0 : ¬cond0_0 i) (hc1 : cond0_1 i) (x0 : Vec F S4096x64 .f32) (x1 : Vec F S1024x64 .f32)
    (s0 : Vec F S1x1024 .f32) (s1 : Vec F S1x1 .f32) (s2 : Vec F S64x1024 .f32) (s3 : Vec F S1x1024 .f32) (s4 : Vec F S1x1024 .f32) :
    sout0_C_0 c i arg1 harg1 arg2 harg2 arg3 harg3 arg4 harg4 arg5 harg5 arg6 harg6 arg7 harg7 arg8 harg8 arg9 harg9 arg10 harg10 arg11 harg11 hc0 hc1 x0 x1 s0 s1 s2 s3 s4
      = k0_pay3 (k0_pay15 x0 s2 s3 s4) s0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 hc0 hc1 x0 x1 s0 s1 s2 s3 s4)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]

/-- The sum of the least distances after the last point. -/
theorem acc_C (hc0 : ¬cond0_0 i) (hc1 : cond0_1 i) (x0 : Vec F S4096x64 .f32) (x1 : Vec F S1024x64 .f32)
    (s0 : Vec F S1x1024 .f32) (s1 : Vec F S1x1 .f32) (s2 : Vec F S64x1024 .f32) (s3 : Vec F S1x1024 .f32) (s4 : Vec F S1x1024 .f32) :
    sout0_C_1 c i arg1 harg1 arg2 harg2 arg3 harg3 arg4 harg4 arg5 harg5 arg6 harg6 arg7 harg7 arg8 harg8 arg9 harg9 arg10 harg10 arg11 harg11 hc0 hc1 x0 x1 s0 s1 s2 s3 s4
      = fun _ => k0_pay2 (k0_pay12 x0 s2 s3) (s1 (ix2 0 0)) := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 hc0 hc1 x0 x1 s0 s1 s2 s3 s4)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]
  exact congrArg (fun e => fun _ => k0_pay2 (k0_pay12 x0 s2 s3) e) (ld_scalar s1 _)
/-- The loss the last point stores. -/
theorem loss_C (hc0 : ¬cond0_0 i) (hc1 : cond0_1 i) (x0 : Vec F S4096x64 .f32) (x1 : Vec F S1024x64 .f32)
    (s0 : Vec F S1x1024 .f32) (s1 : Vec F S1x1 .f32) (s2 : Vec F S64x1024 .f32) (s3 : Vec F S1x1024 .f32) (s4 : Vec F S1x1024 .f32) :
    out0_C_3 c i arg1 harg1 arg2 harg2 arg3 harg3 arg4 harg4 arg5 harg5 arg6 harg6 arg7 harg7 arg8 harg8 arg9 harg9 arg10 harg10 arg11 harg11 hc0 hc1 x0 x1 s0 s1 s2 s3 s4
      = fun _ => k0_pay4 (k0_pay2 (k0_pay12 x0 s2 s3) (s1 (ix2 0 0))) := by
  unfold out0_C_3
  rw [View.read_writes_eq_canon _ _ _ (cover0_C_3 c i arg1 harg1 arg2 harg2 arg3 harg3 arg4 harg4 arg5 harg5 arg6 harg6 arg7 harg7 arg8 harg8 arg9 harg9 arg10 harg10 arg11 harg11 hc0 hc1 x0 x1 s0 s1 s2 s3 s4)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]
  exact congrArg (fun e => fun _ => k0_pay4 (k0_pay2 (k0_pay12 x0 s2 s3) e)) (ld_scalar s1 _)
/-- The perplexity the last point stores. -/
theorem perplexity_C (hc0 : ¬cond0_0 i) (hc1 : cond0_1 i) (x0 : Vec F S4096x64 .f32) (x1 : Vec F S1024x64 .f32)
    (s0 : Vec F S1x1024 .f32) (s1 : Vec F S1x1 .f32) (s2 : Vec F S64x1024 .f32) (s3 : Vec F S1x1024 .f32) (s4 : Vec F S1x1024 .f32) :
    out0_C_4 c i arg1 harg1 arg2 harg2 arg3 harg3 arg4 harg4 arg5 harg5 arg6 harg6 arg7 harg7 arg8 harg8 arg9 harg9 arg10 harg10 arg11 harg11 hc0 hc1 x0 x1 s0 s1 s2 s3 s4
      = fun _ => k0_pay5 (k0_pay3 (k0_pay15 x0 s2 s3 s4) s0) := by
  unfold out0_C_4
  rw [View.read_writes_eq_canon _ _ _ (cover0_C_4 c i arg1 harg1 arg2 harg2 arg3 harg3 arg4 harg4 arg5 harg5 arg6 harg6 arg7 harg7 arg8 harg8 arg9 harg9 arg10 harg10 arg11 harg11 hc0 hc1 x0 x1 s0 s1 s2 s3 s4)]
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread]
  simp only [View.canon_cons_unit_zero (S := S4096x1) off_zero, View.canon_cons_unit_zero (S := S1x1) off_zero,
    View.canon_cons_unit_zero (S := S1x1024) off_zero, View.canon_cons_unit_zero (S := S64x1024) off_zero,
    View.ld_unit_zero (S := S4096x64) off_zero, View.ld_unit_zero (S := S1024x64) off_zero,
    View.ld_unit_zero (S := S64x1024) off_zero, View.ld_unit_zero (S := S1x1024) off_zero,
    View.ld_unit_zero (S := S1x1) off_zero,
    View.readCov_unit_zero (S := S64x1024) _ off_zero, View.readCov_unit_zero (S := S1x1024) _ off_zero,
    View.readCov_unit_zero (S := S1x1) _ off_zero]
  rfl
end

end Cert.Proof.Point
-- ==== Proof.Sweep.lean ====
/-
  The kernel's four grid points put together: the codebook's transposed copy, its squared norms and the lane
  numbers are made at the first point and kept, the counts and the sum of the least distances grow from point to point.
  At the end the three result arrays are read off, for any float values.
-/
module

public import proofs.«01_k».proof.Proof.Point
public import Idealize.ShloMosaic.Lib.Pipeline.ValueKit

@[expose] public section

set_option maxRecDepth 16384

noncomputable section

namespace Cert.Proof.Sweep

open Cert.KernelIdeal Cert.KernelIdeal.Gen
open Idealize.ShloMosaic Idealize.ShloMosaic.ValueIdx Idealize.ShloMosaic.TcCoe Idealize.SL.Sem

variable {F : FTy → Type} [FloatOps F]

/-- The one-hot rows of a block `x` of inputs against the codebook `w`. -/
def hot (x : Vec F S4096x64 .f32) (w : Vec F S1024x64 .f32) : FVec F S4096x1024 .f32 :=
  k0_pay15 x (k0_pay8 w) (k0_pay9 w) k0_pay10

/-- The least distances of a block `x` of inputs to the codebook `w`. -/
def least (x : Vec F S4096x64 .f32) (w : Vec F S1024x64 .f32) : FVec F S4096x1 .f32 :=
  k0_pay12 x (k0_pay8 w) (k0_pay9 w)

/-- The nearest codebook rows of a block `x` of inputs. -/
def nearest (x : Vec F S4096x64 .f32) (w : Vec F S1024x64 .f32) : Vec F S4096x1 .i32 :=
  k0_pay14 x (k0_pay8 w) (k0_pay9 w) k0_pay10

/-- The counts after the point `n`, of the blocks `x 0`, `x 1`, … -/
def counts (x : ℕ → Vec F S4096x64 .f32) (w : Vec F S1024x64 .f32) : ℕ → FVec F S1x1024 .f32
  | 0 => k0_pay3 (hot (x 0) w) k0_pay6
  | n + 1 => k0_pay3 (hot (x (n + 1)) w) (counts x w n)

/-- The sum of the least distances after the point `n`. -/
def total (x : ℕ → Vec F S4096x64 .f32) (w : Vec F S1024x64 .f32) : ℕ → F .f32
  | 0 => k0_pay2 (least (x 0) w) (Scalar.ofBits .f32 0x00000000#32)
  | n + 1 => k0_pay2 (least (x (n + 1)) w) (total x w n)

/-- The `n`-th block of 4096 rows of the array `a`, read as zero beyond the array. -/
def blockOf (a : Vec F S16384x64 .f32) (n : ℕ) : Vec F S4096x64 .f32 := fun y =>
  if h : n < 4 then a (ValueIdx.ix2 ⟨4096 * n + (y 0).val, by have := (y 0).isLt; change (y 0).val < 4096 at this; show _ < 16384; omega⟩ (y 1))
  else Scalar.ofBits .f32 0x00000000#32

variable (m : (ℓ : Loc nD τ sig) → Buf (Elt F) ℓ)

/-- The input rows advance by one block a point. -/
theorem index0 : ∀ t : Fin cfg0.N, (cfg0.win 0).index t = ![t.val, 0] := by decide +kernel
/-- The codebook stays the same at every point. -/
theorem index1 : ∀ t : Fin cfg0.N, (cfg0.win 1).index t = ![0, 0] := by decide +kernel
/-- The index column advances by one block a point. -/
theorem index2 : ∀ t : Fin cfg0.N, (cfg0.win 2).index t = ![t.val, 0] := by decide +kernel

/-- The second input block is the whole codebook at every point. -/
theorem block1 (c : Dev nD) (t : Fin cfg0.N) : iblk m c 1 t = V m c main_arg1 := by
  funext y
  blk_ext [iblk, index1 t]

/-- The first input block at the point `t` is the `t`-th block of rows. -/
theorem block0 (c : Dev nD) (t : Fin cfg0.N) : iblk m c 0 t = blockOf (V m c main_v0) t.val := by
  have ht : t.val < 4 := lt_of_lt_of_eq t.isLt N_0
  funext y
  unfold blockOf
  rw [dif_pos ht]
  blk_ext [iblk, index0 t]

/-- The array of inputs, and the codebook, as the launch finds them. -/
def inputs (c : Dev nD) : ℕ → Vec F S4096x64 .f32 := blockOf (V m c main_v0)

/-- The codebook as the launch finds it. -/
def book (c : Dev nD) : Vec F S1024x64 .f32 := V m c main_arg1

/-- What the points hold: the three kept arrays, the counts, the running sum and the block of indices. -/
theorem held (c : Dev nD) : ∀ (n : ℕ) (h : n < cfg0.N),
    (outsAt0 m c n h).2.2.2.2.2.1 = k0_pay8 (book m c) ∧
    (outsAt0 m c n h).2.2.2.2.2.2.1 = k0_pay9 (book m c) ∧
    (outsAt0 m c n h).2.2.2.2.2.2.2 = k0_pay10 ∧
    (outsAt0 m c n h).2.2.2.1 = counts (inputs m c) (book m c) n ∧
    (outsAt0 m c n h).2.2.2.2.1 = (fun _ => total (inputs m c) (book m c) n) ∧
    (outsAt0 m c n h).1 = nearest (inputs m c n) (book m c) := by
  intro n
  induction n with
  | zero =>
    intro h
    have e0 : iblk m c 0 ⟨0, h⟩ = inputs m c 0 := block0 m c ⟨0, h⟩
    have e1 : iblk m c 1 ⟨0, h⟩ = book m c := block1 m c ⟨0, h⟩
    rw [show outsAt0 m c 0 h = _ from outsAt0_A m c ⟨0, h⟩ rfl (show ¬0 % 4 = 3 by decide), e0, e1]
    dsimp only
    refine ⟨?_, ?_, ?_, ?_, ?_, ?_⟩
    · rw [Point.wt2_A]
    · rw [Point.wsq_A]
    · rw [Point.iotaf_A]
    · rw [Point.count_A]; rfl
    · rw [Point.acc_A]; rfl
    · rw [Point.index_A]; rfl
  | succ n ih =>
    intro h
    obtain ⟨i1, i2, i3, i4, i5, -⟩ := ih (Nat.lt_of_succ_lt h)
    have e0 : iblk m c 0 ⟨n + 1, h⟩ = inputs m c (n + 1) := block0 m c ⟨n + 1, h⟩
    have e1 : iblk m c 1 ⟨n + 1, h⟩ = book m c := block1 m c ⟨n + 1, h⟩
    have hN : n + 1 < 4 := lt_of_lt_of_eq h N_0
    have h0 : ¬(n + 1) % 4 = 0 := by omega
    by_cases h1 : (n + 1) % 4 = 3
    · rw [show outsAt0 m c (n + 1) h = _ from outsAt0_C m c ⟨n + 1, h⟩ h0 h1, e0, e1]
      have ep : outsAt0 m c (n + 1 - 1) (Nat.lt_of_le_of_lt (Nat.sub_le _ _) h) = outsAt0 m c n (Nat.lt_of_succ_lt h) := rfl
      dsimp only
      rw [ep, i1, i2, i3, i4, i5]
      refine ⟨rfl, rfl, rfl, ?_, ?_, ?_⟩
      · rw [Point.count_C]; rfl
      · rw [Point.acc_C]; rfl
      · rw [Point.index_C]; rfl
    · rw [show outsAt0 m c (n + 1) h = _ from outsAt0_B m c ⟨n + 1, h⟩ h0 h1, e0, e1]
      have ep : outsAt0 m c (n + 1 - 1) (Nat.lt_of_le_of_lt (Nat.sub_le _ _) h) = outsAt0 m c n (Nat.lt_of_succ_lt h) := rfl
      dsimp only
      rw [ep, i1, i2, i3, i4, i5]
      refine ⟨rfl, rfl, rfl, ?_, ?_, ?_⟩
      · rw [Point.count_B]; rfl
      · rw [Point.acc_B]; rfl
      · rw [Point.index_B]; rfl

/-- The loss and the perplexity that the last point writes. -/
theorem last (c : Dev nD) (h : 3 < cfg0.N) :
    (outsAt0 m c 3 h).2.1 = (fun _ => k0_pay4 (total (inputs m c) (book m c) 3)) ∧
    (outsAt0 m c 3 h).2.2.1 = (fun _ => k0_pay5 (counts (inputs m c) (book m c) 3)) := by
  obtain ⟨i1, i2, i3, i4, i5, -⟩ := held m c 2 (Nat.lt_of_succ_lt h)
  have e0 : iblk m c 0 ⟨3, h⟩ = inputs m c 3 := block0 m c ⟨3, h⟩
  have e1 : iblk m c 1 ⟨3, h⟩ = book m c := block1 m c ⟨3, h⟩
  rw [show outsAt0 m c 3 h = _ from outsAt0_C m c ⟨3, h⟩ (show ¬3 % 4 = 0 by decide) rfl, e0, e1]
  have ep : outsAt0 m c (3 - 1) (Nat.lt_of_le_of_lt (Nat.sub_le _ _) h) = outsAt0 m c 2 (Nat.lt_of_succ_lt h) := rfl
  dsimp only
  rw [ep, i1, i2, i3, i4, i5]
  exact ⟨by rw [Point.loss_C]; rfl, by rw [Point.perplexity_C]; rfl⟩

/-- The array of indices after the run: row `r` is that of its block. -/
theorem indices (c : Dev nD) : (dats m 0 c).arrAt 2 cfg0.N
    = fun i : S16384x1.Idx => nearest (inputs m c ((i 0).val / 4096)) (book m c)
        (ValueIdx.ix2 ⟨(i 0).val % 4096, Nat.mod_lt _ (by decide)⟩ 0) := by
  refine (dats m 0 c).arrAt_eq_of_covers 2 _ (by decide +kernel) fun t hf y => ?_
  blk_simp
  rw [after0_2, (held m c t.val t.isLt).2.2.2.2.2]
  have e : (win0_2.index t 0 : ℕ) = t.val := congrFun (index2 t) 0
  have hy : (y 0).val < 4096 := (y 0).isLt
  have h1 : (win0_2.index t 0 * 4096 + (y 0).val) / 4096 = t.val := by rw [e]; omega
  have h2 : (win0_2.index t 0 * 4096 + (y 0).val) % 4096 = (y 0).val := by rw [e]; omega
  rw [h1]
  congr 1
  funext a
  fin_cases a
  · exact Fin.ext h2.symm
  · exact Subsingleton.elim (α := Fin 1) _ _

/-- The loss after the run. -/
theorem losses (c : Dev nD) : (dats m 0 c).arrAt 3 cfg0.N
    = fun _ : S1x1.Idx => k0_pay4 (total (inputs m c) (book m c) 3) := by
  refine (dats m 0 c).arrAt_eq_of_after_last 3 t0_3 (by decide +kernel) _ fun j => ?_
  blk_simp
  rw [after0_3]
  exact congrFun (last m c _).1 _

/-- The perplexity after the run. -/
theorem perplexities (c : Dev nD) : (dats m 0 c).arrAt 4 cfg0.N
    = fun _ : S1x1.Idx => k0_pay5 (counts (inputs m c) (book m c) 3) := by
  refine (dats m 0 c).arrAt_eq_of_after_last 4 t0_3 (by decide +kernel) _ fun j => ?_
  blk_simp
  rw [after0_4]
  exact congrFun (last m c _).2 _

/-- Before the launch the codebook is as it was given. -/
theorem book_eq (c : Dev nD) : book m c = m ((c.tc : Thread nD τ).loc main_arg1) := V_main_arg1 m c

/-- Before the launch the input array is the given one, reshaped to rows. -/
theorem rows_eq (c : Dev nD) : V m c main_v0
    = shapeCast S16384x64 (m ((c.tc : Thread nD τ).loc main_arg0)) shapeCasts_S16x1024x64_S16384x64 := by
  entry_read
  rfl

/-- The loss as the program returns it. -/
theorem loss_result (c : Dev nD) : Pipeline.afterTail₀ cfgs (dats m) 0 (V0 m) [hostOps1] c main_v2
    = fun _ => k0_pay4 (total (inputs m c) (book m c) 3) := by
  unfold Pipeline.afterTail₀
  simp only [hostOps1, List.flatten_cons, List.flatten_nil, List.append_nil]
  after_results
  rw [show Pipeline.withArrays (cfgs 0).spec c (V0 m c) (fun w => (dats m 0 c).arrAt w (cfgs 0).N)
      (Proc.devRef .tc main_v1_1) = _ from
    (Pipeline.withArrays_arr spec0 (by decide) c (V0 m c) (fun w => (dats m 0 c).arrAt w cfg0.N) 3).trans (losses m c)]
  rfl

/-- The perplexity as the program returns it. -/
theorem perplexity_result (c : Dev nD) : Pipeline.afterTail₀ cfgs (dats m) 0 (V0 m) [hostOps1] c main_v4
    = fun _ => k0_pay5 (counts (inputs m c) (book m c) 3) := by
  unfold Pipeline.afterTail₀
  simp only [hostOps1, List.flatten_cons, List.flatten_nil, List.append_nil]
  after_results
  rw [show Pipeline.withArrays (cfgs 0).spec c (V0 m c) (fun w => (dats m 0 c).arrAt w (cfgs 0).N)
      (Proc.devRef .tc main_v1_2) = _ from
    (Pipeline.withArrays_arr spec0 (by decide) c (V0 m c) (fun w => (dats m 0 c).arrAt w cfg0.N) 4).trans
      (perplexities m c)]
  rfl

/-- The indices as the program returns them. -/
theorem index_result (c : Dev nD) : Pipeline.afterTail₀ cfgs (dats m) 0 (V0 m) [hostOps1] c main_v3
    = fun i : S16384.Idx => nearest (inputs m c ((i 0).val / 4096)) (book m c)
        (ValueIdx.ix2 ⟨(i 0).val % 4096, Nat.mod_lt _ (by decide)⟩ 0) := by
  unfold Pipeline.afterTail₀
  simp only [hostOps1, List.flatten_cons, List.flatten_nil, List.append_nil]
  after_results
  rw [show Pipeline.withArrays (cfgs 0).spec c (V0 m c) (fun w => (dats m 0 c).arrAt w (cfgs 0).N)
      (Proc.devRef .tc main_v1_0) = _ from
    (Pipeline.withArrays_arr spec0 (by decide) c (V0 m c) (fun w => (dats m 0 c).arrAt w cfg0.N) 2).trans
      (indices m c)]
  funext i
  pointwise

/-- The kernel runs to its end and leaves the three values in its result buffers, its arguments as they were. -/
theorem run (g : Dev nD → PrngReg) :
    θ_run (defs (F := F)) (onTc (τ := τ) (main (F := F))) ⟨m, fun _ => 0, g⟩ (fun r => ∀ c : Dev nD,
      r.2.mem ((c.tc : Thread nD τ).loc main_v2) = (fun _ => k0_pay4 (total (inputs m c) (book m c) 3)) ∧
      r.2.mem ((c.tc : Thread nD τ).loc main_v3)
        = (fun i : S16384.Idx => nearest (inputs m c ((i 0).val / 4096)) (book m c)
          (ValueIdx.ix2 ⟨(i 0).val % 4096, Nat.mod_lt _ (by decide)⟩ 0)) ∧
      r.2.mem ((c.tc : Thread nD τ).loc main_v4) = (fun _ => k0_pay5 (counts (inputs m c) (book m c) 3)) ∧
      r.2.mem ((c.tc : Thread nD τ).loc main_arg0) = m ((c.tc : Thread nD τ).loc main_arg0) ∧
      r.2.mem ((c.tc : Thread nD τ).loc main_arg1) = m ((c.tc : Thread nD τ).loc main_arg1)) := by
  run_from Gen.run_main m g
  · exact loss_result m c
  · exact index_result m c
  · exact perplexity_result m c
  · exact W_main_arg0 m (dats m) c

end Cert.Proof.Sweep
-- ==== Proof.RefRun.lean ====
/-
  The run of the reference: what its straight line of host operations leaves in its three result buffers, as
  functions of the two arguments' contents (`dist`, `index`, `oneHot`, `loss`, `perplexity`), for any float values.
-/
module

public import proofs.«01_k».proof.Defs
public import proofs.«01_k».proof.Proof.Gen.ReferenceIdeal
public import Idealize.ShloMosaic.Lib.StableHlo.Run
public import Idealize.ShloMosaic.Lib.Claim
public import Idealize.ShloMosaic.Lib.Quiescent

@[expose] public section

noncomputable section

namespace Cert.Proof.RefRun

open Cert.ReferenceIdeal Cert.ReferenceIdeal.Gen
open Idealize.ShloMosaic Idealize.ShloMosaic.TcCoe Idealize.ShloMosaic.StableHlo Idealize.SL.Sem

variable {F : FTy → Type} [FloatOps F]

/-- The input rows, one per vector to be encoded. -/
def rows (x : Vec F S16x1024x64 .f32) : Vec F S16384x64 .f32 :=
  shapeCast S16384x64 x shapeCasts_S16x1024x64_S16384x64

/-- The scalar zero every sum starts from. -/
def zero : Vec F S_ .f32 := constant S_ .f32 0x00000000#32

/-- The squared distances of every row to every codebook row, expanded: the two squared norms less twice the product. -/
def dist (x : Vec F S16x1024x64 .f32) (w : Vec F S1024x64 .f32) : Vec F S16384x1024 .f32 :=
  subf
    (addf
      (broadcastInDim S16384x1024 ![0, 1] bcast_S16384x1_S16384x1024_0_1
        (broadcastInDim S16384x1 ![0] bcast_S16384_S16384x1_0
          (Host.reduceAdd (mulf (rows x) (rows x)) zero reducesTo_S16384x64_S16384_d1 h_S_)))
      (broadcastInDim S16384x1024 ![0, 1] bcast_S1x1024_S16384x1024_0_1
        (broadcastInDim S1x1024 ![1] bcast_S1024_S1x1024_1
          (Host.reduceAdd (mulf w w) zero reducesTo_S1024x64_S1024_d1 h_S_))))
    (mulf
      (broadcastInDim S16384x1024 ![] bcast_S_S16384x1024 (constant S_ .f32 0x40000000#32))
      (Host.dotGeneral dot_S16384x64_S64x1024_S16384x1024_1_0_0_1_n_n none (rows x)
        (transpose S64x1024 [1, 0] w transposes_S1024x64_S64x1024_1_0)))

/-- The index of the nearest codebook row, for every input row. -/
def index (x : Vec F S16x1024x64 .f32) (w : Vec F S1024x64 .f32) : Vec F S16384 .i32 := fun j =>
  (Host.argReduce reducer_argmin_f32_i32 (dist x w) (iotaInDim S16384x1024 32 1)
    (constant S_ .f32 0x7F800000#32) (constantI S_ 32 0#32) reducesTo_S16384x1024_S16384_d1 h_S_ j).2

/-- The one-hot rows of those indices. -/
def oneHot (x : Vec F S16x1024x64 .f32) (w : Vec F S1024x64 .f32) : Vec F S16384x1024 .f32 :=
  uitofp .f32 (cmpi .eq
    (broadcastInDim S16384x1024 ![0, 1] bcast_S16384x1_S16384x1024_0_1
      (broadcastInDim S16384x1 ![0] bcast_S16384_S16384x1_0 (index x w)))
    (broadcastInDim S16384x1024 ![0, 1] bcast_S1x1024_S16384x1024_0_1 (iotaInDim S1x1024 32 1)))

/-- The difference of the quantized rows and the input. -/
def residual (x : Vec F S16x1024x64 .f32) (w : Vec F S1024x64 .f32) : Vec F S16x1024x64 .f32 :=
  subf (shapeCast S16x1024x64
    (Host.dotGeneral dot_S16384x1024_S1024x64_S16384x64_1_0_0_1_n_n none (oneHot x w) w)
    shapeCasts_S16384x64_S16x1024x64) x

/-- The commitment loss: a quarter of the mean squared difference. -/
def loss (x : Vec F S16x1024x64 .f32) (w : Vec F S1024x64 .f32) : Vec F S_ .f32 :=
  mulf (constant S_ .f32 0x3E800000#32)
    (Host.divf
      (Host.reduceAdd (mulf (residual x w) (residual x w)) zero reducesTo_S16x1024x64_S_d0_1_2 h_S_)
      (constant S_ .f32 0x49800000#32))

/-- The mean one-hot row: how often each codebook row is taken. -/
def usage (x : Vec F S16x1024x64 .f32) (w : Vec F S1024x64 .f32) : Vec F S1024 .f32 :=
  Host.divf (Host.reduceAdd (oneHot x w) zero reducesTo_S16384x1024_S1024_d0 h_S_)
    (broadcastInDim S1024 ![] bcast_S_S1024 (constant S_ .f32 0x46800000#32))

/-- The perplexity of the usage. -/
def perplexity (x : Vec F S16x1024x64 .f32) (w : Vec F S1024x64 .f32) : Vec F S_ .f32 :=
  Host.exp (Host.negf
    (Host.reduceAdd
      (mulf (usage x w)
        (Host.log (addf (usage x w) (broadcastInDim S1024 ![] bcast_S_S1024 (constant S_ .f32 0x2EDBE6FF#32)))))
      zero reducesTo_S1024_S_d0 h_S_))

/-- The reference runs to its end and leaves the three values in its result buffers, its arguments as they were. -/
theorem run (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_v23)
          = loss (m ((c.tc : Thread nD τ).loc main_arg0)) (m ((c.tc : Thread nD τ).loc main_arg1))
      ∧ r.2.mem ((c.tc : Thread nD τ).loc main_v15)
          = index (m ((c.tc : Thread nD τ).loc main_arg0)) (m ((c.tc : Thread nD τ).loc main_arg1))
      ∧ r.2.mem ((c.tc : Thread nD τ).loc main_v33)
          = perplexity (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  hlo_run
  · simp only [TRef.ofBuf_toBuf]
    unfold loss residual oneHot index dist zero rows
    rfl
  · simp only [TRef.ofBuf_toBuf]
    unfold index dist zero rows
    rfl
  · simp only [TRef.ofBuf_toBuf]
    unfold perplexity usage oneHot index dist zero rows
    rfl

/-- The reference's frame: it runs to its end with its arguments as they were, and it has no semaphore to leave raised. -/
theorem frame (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_mono (run m g) fun r h => ⟨fun c => ⟨(h c).2.2.2.1, (h c).2.2.2.2⟩, sem_eq_zero_of_no_sems rfl r.2⟩

end Cert.Proof.RefRun
-- ==== Proof.Numbers.lean ====
/-
  The real-number side: the squared distance of a vector to a codebook row, the first nearest row, and what the
  programs' minima, folds and literals are over real values.
-/
module

public import Idealize.ShloMosaic.PureOps.Ideal.Laws
public import Idealize.ShloMosaic.Lib.Pointwise

@[expose] public section

noncomputable section

namespace Cert.Proof.Numbers

open Idealize.ShloMosaic

/-- The squared distance of the vector `x` to the `k`-th row of `w`, expanded. -/
def sqDist (x : Fin 64 → ℝ) (w : Fin 1024 → Fin 64 → ℝ) (k : Fin 1024) : ℝ :=
  ∑ j, x j * x j + ∑ j, w k j * w k j - 2 * ∑ j, x j * w k j

/-- Row `a` is chosen before row `b`: its value is less, or the same and it comes no later. -/
def Before (f : Fin 1024 → ℝ) (a b : Fin 1024) : Prop := f a < f b ∨ (f a = f b ∧ a ≤ b)

/-- A row comes no later than itself. -/
theorem Before.refl (f : Fin 1024 → ℝ) (a : Fin 1024) : Before f a a := .inr ⟨rfl, le_rfl⟩

/-- The order of choice is transitive. -/
theorem Before.trans {f : Fin 1024 → ℝ} {a b c : Fin 1024} (h : Before f a b) (g : Before f b c) : Before f a c := by
  rcases h with h | ⟨h, h'⟩ <;> rcases g with g | ⟨g, g'⟩
  · exact .inl (h.trans g)
  · exact .inl (g ▸ h)
  · exact .inl (h ▸ g)
  · exact .inr ⟨h.trans g, h'.trans g'⟩

/-- Two rows each chosen before the other are one row. -/
theorem Before.antisymm {f : Fin 1024 → ℝ} {a b : Fin 1024} (h : Before f a b) (g : Before f b a) : a = b := by
  rcases h with h | ⟨h, h'⟩ <;> rcases g with g | ⟨g, g'⟩
  · exact absurd h g.asymm
  · exact absurd g h.ne'
  · exact absurd h g.ne'
  · exact le_antisymm h' g'

/-- There is a row chosen before all others. -/
theorem exists_first (f : Fin 1024 → ℝ) : ∃ a, ∀ b, Before f a b := by
  obtain ⟨a, -, ha⟩ := Finset.exists_min_image Finset.univ (fun k => toLex (f k, k)) ⟨0, Finset.mem_univ _⟩
  exact ⟨a, fun b => by simpa [Before, Prod.Lex.le_iff] using ha b (Finset.mem_univ _)⟩

/-- The first row at which `f` is least. -/
def first (f : Fin 1024 → ℝ) : Fin 1024 := (exists_first f).choose

/-- The first least row is chosen before every other. -/
theorem first_before (f : Fin 1024 → ℝ) (b : Fin 1024) : Before f (first f) b := (exists_first f).choose_spec b

/-- Its value is the least. -/
theorem first_le (f : Fin 1024 → ℝ) (b : Fin 1024) : f (first f) ≤ f b := by
  rcases first_before f b with h | ⟨h, -⟩
  · exact h.le
  · exact h.le

/-- It is the first of the rows that attain the least value. -/
theorem first_le_of_eq (f : Fin 1024 → ℝ) (b : Fin 1024) (h : f b = f (first f)) : first f ≤ b := by
  rcases first_before f b with g | ⟨-, g⟩
  · exact absurd h g.ne'
  · exact g

/-- A sum of real numbers is one among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A minimum taken from the top down to its least entry. -/
theorem fold_min {n : ℕ} (g : Fin n → EReal) (m : Fin n) (hm : ∀ k, g m ≤ g k) :
    Finset.univ.fold min (⊤ : EReal) g = g m := by
  apply le_antisymm
  · exact (Finset.fold_min_le _).mpr (.inr ⟨m, Finset.mem_univ _, le_rfl⟩)
  · exact (Finset.le_fold_min _).mpr ⟨le_top, fun k _ => hm k⟩

/-- The least value is that at the first row. -/
theorem fold_min_first (f : Fin 1024 → ℝ) :
    Finset.univ.fold min (⊤ : EReal) (fun k => ((f k : ℝ) : EReal)) = ((f (first f) : ℝ) : EReal) :=
  fold_min _ _ fun k => EReal.coe_le_coe_iff.mpr (first_le f k)

/-- The least number of a row that attains the least value is the first row's. -/
theorem fold_min_number (f : Fin 1024 → ℝ) :
    Finset.univ.fold min (⊤ : EReal)
      (fun k : Fin 1024 => if ((f k : ℝ) : EReal) = ((f (first f) : ℝ) : EReal) then ((k.val : ℝ) : EReal) else ((1024 : ℝ) : EReal))
      = (((first f).val : ℝ) : EReal) := by
  refine (fold_min _ (first f) fun k => ?_).trans (if_pos rfl)
  rw [if_pos rfl]
  split
  · next h => exact EReal.coe_le_coe_iff.mpr (Nat.cast_le.mpr (first_le_of_eq f k (EReal.coe_eq_coe_iff.mp h)))
  · exact EReal.coe_le_coe_iff.mpr (by exact_mod_cast (first f).isLt.le)

/-- A row number read as a real number and rounded is the row number. -/
theorem fptosi_row (k : Fin 1024) : Ideal.fptosi 32 ((k.val : ℝ) : EReal) = BitVec.ofNat 32 k.val := by
  have hk := k.isLt
  rw [Ideal.fptosi, Ideal.toIntClamped_coe, if_pos (Nat.cast_nonneg _), Int.floor_natCast, min_eq_right, max_eq_right]
  · exact BitVec.ofInt_natCast 32 k.val
  · simp
  · norm_num; omega

/-- A row number's word, read signed, is the row number. -/
theorem toInt_row (k : Fin 1024) : (BitVec.ofNat 32 k.val).toInt = k.val := by
  have hk := k.isLt
  have hn : (BitVec.ofNat 32 k.val).toNat = k.val := by rw [BitVec.toNat_ofNat]; omega
  rw [BitVec.toInt_eq_toNat_of_lt (by omega), hn]

/-- Two row numbers' words are the same only for the same row. -/
theorem word_eq_iff (a b : Fin 1024) : BitVec.ofNat 32 a.val = BitVec.ofNat 32 b.val ↔ a = b := by
  refine ⟨fun h => Fin.ext ?_, fun h => h ▸ rfl⟩
  have := congrArg BitVec.toInt h
  rw [toInt_row, toInt_row] at this
  exact_mod_cast this

/-- The order of two row numbers' words is that of the rows. -/
theorem word_slt_iff (a b : Fin 1024) :
    (BitVec.ofNat 32 a.val).slt (BitVec.ofNat 32 b.val) = decide (a < b) := by
  rw [BitVec.slt_eq_decide, toInt_row, toInt_row]
  simp

/-- The loss the programs compute: the sum of the rows' least distances over four times the number of entries. -/
def lossOf (X : Fin 16384 → Fin 64 → ℝ) (W : Fin 1024 → Fin 64 → ℝ) : EReal :=
  (((∑ r, sqDist (X r) W (first (sqDist (X r) W))) * (1 / 4194304) : ℝ) : EReal)

/-- How many input rows have codebook row `k` as their first nearest one. -/
def countOf (X : Fin 16384 → Fin 64 → ℝ) (W : Fin 1024 → Fin 64 → ℝ) (k : Fin 1024) : ℝ :=
  ∑ r, if first (sqDist (X r) W) = k then 1 else 0

/-- The perplexity the programs compute: the exponential of the entropy of the codebook rows' shares. -/
def perplexityOf (X : Fin 16384 → Fin 64 → ℝ) (W : Fin 1024 → Fin 64 → ℝ) : EReal :=
  Ideal.exp (-∑ k, ((countOf X W k : ℝ) : EReal) * ((1 / 16384 : ℝ) : EReal)
    * Ideal.log (((countOf X W k : ℝ) : EReal) * ((1 / 16384 : ℝ) : EReal) + Ideal.ofBits .f32 0x2EDBE6FF#32))

/-- The literal a quarter. -/
theorem lit_quarter : Ideal.ofBits .f32 0x3E800000#32 = ((1 / 4 : ℝ) : EReal) := by
  simp [Ideal.ofBits, Ideal.ieee, -EReal.coe_mul]; norm_num
/-- The literal minus two. -/
theorem lit_neg_two : Ideal.ofBits .f32 0xC0000000#32 = ((-2 : ℝ) : EReal) := by
  simp [Ideal.ofBits, Ideal.ieee, -EReal.coe_mul]; norm_num
/-- The literal two. -/
theorem lit_two : Ideal.ofBits .f32 0x40000000#32 = ((2 : ℝ) : EReal) := by
  simp [Ideal.ofBits, Ideal.ieee, -EReal.coe_mul]; norm_num
/-- The literal 1024. -/
theorem lit_1024 : Ideal.ofBits .f32 0x44800000#32 = ((1024 : ℝ) : EReal) := by
  simp [Ideal.ofBits, Ideal.ieee, -EReal.coe_mul]; norm_num
/-- The literal 2 to the 20th. -/
theorem lit_2p20 : Ideal.ofBits .f32 0x49800000#32 = ((1048576 : ℝ) : EReal) := by
  simp [Ideal.ofBits, Ideal.ieee, -EReal.coe_mul]; norm_num
/-- The literal 2 to the 14th. -/
theorem lit_2p14 : Ideal.ofBits .f32 0x46800000#32 = ((16384 : ℝ) : EReal) := by
  simp [Ideal.ofBits, Ideal.ieee, -EReal.coe_mul]; norm_num
/-- The literal 2 to the minus 14th. -/
theorem lit_2m14 : Ideal.ofBits .f32 0x38800000#32 = ((1 / 16384 : ℝ) : EReal) := by
  simp [Ideal.ofBits, Ideal.ieee, -EReal.coe_mul]; norm_num
/-- The literal 2 to the minus 22nd. -/
theorem lit_2m22 : Ideal.ofBits .f32 0x34800000#32 = ((1 / 4194304 : ℝ) : EReal) := by
  simp [Ideal.ofBits, Ideal.ieee, -EReal.coe_mul]; norm_num
/-- The literal the top. -/
theorem lit_top : Ideal.ofBits .f32 0x7F800000#32 = ⊤ := by
  simp [Ideal.ofBits, Ideal.ieee]

end Cert.Proof.Numbers
-- ==== Proof.KernelVal.lean ====
/-
  What the kernel's four points compute over exact real inputs: the distances, the least of them, the first nearest
  row, its one-hot row, and from them the counts, the running sum and the two scalars.
-/
module

public import proofs.«01_k».proof.Proof.Sweep
public import proofs.«01_k».proof.Proof.Numbers

@[expose] public section

set_option maxRecDepth 16384

noncomputable section

namespace Cert.Proof.KernelVal

open Cert.KernelIdeal Cert.KernelIdeal.Gen Cert.Proof.Numbers Cert.Proof.Sweep
open Idealize.ShloMosaic

section block
variable {x : Vec Ideal S4096x64 .f32} {w : Vec Ideal S1024x64 .f32}
  {X : Fin 4096 → Fin 64 → ℝ} {W : Fin 1024 → Fin 64 → ℝ}

/-- The transposed codebook times minus two. -/
theorem book_scaled (hw : ∀ k j, w (ix2 k j) = ((W k j : ℝ) : EReal)) (j : Fin 64) (k : Fin 1024) :
    k0_pay8 w (ix2 j k) = ((W k j * -2 : ℝ) : EReal) := by
  pointwise [k0_pay8, k0_pay7]
  rw [hw, lit_neg_two, ← EReal.coe_mul]

/-- The codebook rows' squared norms. -/
theorem book_norms (hw : ∀ k j, w (ix2 k j) = ((W k j : ℝ) : EReal)) (k : Fin 1024) :
    k0_pay9 w (ix2 0 k) = ((∑ j, W k j * W k j : ℝ) : EReal) := by
  pointwise [k0_pay9, k0_pay7]
  simp only [hw, lit_neg_two, lit_quarter, ← EReal.coe_mul, coe_sum]
  congr 1
  rw [Finset.sum_mul]
  exact Finset.sum_congr rfl fun j _ => by ring

/-- The lane numbers. -/
theorem lane_number (k : Fin 1024) : k0_pay10 (F := Ideal) (ix2 0 k) = ((k.val : ℝ) : EReal) := by
  pointwise [k0_pay10]
  show (((BitVec.ofNat 32 k.val).toInt : ℝ) : EReal) = _
  rw [toInt_row]
  simp

/-- The distances. -/
theorem distance (hx : ∀ r j, x (ix2 r j) = ((X r j : ℝ) : EReal)) (hw : ∀ k j, w (ix2 k j) = ((W k j : ℝ) : EReal))
    (r : Fin 4096) (k : Fin 1024) :
    k0_pay11 x (k0_pay8 w) (k0_pay9 w) (ix2 r k) = ((sqDist (X r) W k : ℝ) : EReal) := by
  pointwise [k0_pay11]
  simp only [hx, book_scaled hw, book_norms hw, ← EReal.coe_mul, coe_sum, ← EReal.coe_add]
  congr 1
  unfold sqDist
  rw [sub_eq_add_neg, Finset.mul_sum, ← Finset.sum_neg_distrib]
  congr 1
  exact Finset.sum_congr rfl fun j _ => by ring

/-- The least distance is that to the first nearest row. -/
theorem least_apply (hx : ∀ r j, x (ix2 r j) = ((X r j : ℝ) : EReal)) (hw : ∀ k j, w (ix2 k j) = ((W k j : ℝ) : EReal))
    (r : Fin 4096) : least x w (ix2 r 0) = ((sqDist (X r) W (first (sqDist (X r) W)) : ℝ) : EReal) := by
  pointwise [least, k0_pay12]
  simp only [distance hx hw, lit_top]
  exact fold_min_first _

/-- The number of the first nearest row. -/
theorem number_apply (hx : ∀ r j, x (ix2 r j) = ((X r j : ℝ) : EReal)) (hw : ∀ k j, w (ix2 k j) = ((W k j : ℝ) : EReal))
    (r : Fin 4096) : k0_pay13 x (k0_pay8 w) (k0_pay9 w) (k0_pay10 (F := Ideal)) (ix2 r 0) = (((first (sqDist (X r) W)).val : ℝ) : EReal) := by
  have hl := least_apply hx hw r
  unfold least at hl
  pointwise [k0_pay13]
  simp only [distance hx hw, hl, lane_number, lit_1024, lit_top]
  exact fold_min_number _

/-- The first nearest row's word. -/
theorem nearest_apply (hx : ∀ r j, x (ix2 r j) = ((X r j : ℝ) : EReal)) (hw : ∀ k j, w (ix2 k j) = ((W k j : ℝ) : EReal))
    (r : Fin 4096) : nearest x w (ix2 r 0) = BitVec.ofNat 32 (first (sqDist (X r) W)).val := by
  have h := number_apply hx hw r
  unfold nearest
  generalize k0_pay8 w = t at *
  generalize k0_pay9 w = q at *
  pointwise [k0_pay14]
  rw [h]
  exact fptosi_row _

/-- A lane compared with a row's number: one where they agree, zero elsewhere. -/
theorem compare_apply (l : FVec Ideal S1x1024 .f32) (p : FVec Ideal S4096x1 .f32) (r : Fin 4096) (k : Fin 1024) :
    select (cmpf .oeq (broadcastTo S4096x1024 l broadcasts_S1x1024_S4096x1024)
        (broadcastTo S4096x1024 p broadcasts_S4096x1_S4096x1024))
      (broadcast S4096x1024 (Scalar.ofBits .f32 0x3F800000#32 : Ideal .f32))
      (broadcast S4096x1024 (Scalar.ofBits .f32 0x00000000#32 : Ideal .f32)) (ix2 r k)
      = if l (ix2 0 k) = p (ix2 r 0) then (1 : EReal) else 0 := by
  pointwise

/-- Two rows' numbers agree exactly when the rows do. -/
theorem same_number (a b : Fin 1024) :
    (if ((a.val : ℝ) : EReal) = ((b.val : ℝ) : EReal) then (1 : EReal) else 0)
      = (((if b = a then 1 else 0) : ℝ) : EReal) := by
  by_cases h : b = a
  · rw [if_pos h, if_pos (by rw [h]), EReal.coe_one]
  · rw [if_neg h, if_neg, EReal.coe_zero]
    intro e
    exact h (Fin.ext (Nat.cast_injective (R := ℝ) (EReal.coe_injective e).symm))

/-- The one-hot row. -/
theorem hot_apply (hx : ∀ r j, x (ix2 r j) = ((X r j : ℝ) : EReal)) (hw : ∀ k j, w (ix2 k j) = ((W k j : ℝ) : EReal))
    (r : Fin 4096) (k : Fin 1024) :
    hot x w (ix2 r k) = (((if first (sqDist (X r) W) = k then 1 else 0) : ℝ) : EReal) := by
  unfold hot k0_pay15
  refine (compare_apply _ _ r k).trans ?_
  rw [lane_number, number_apply hx hw]
  exact same_number _ _

end block

section blocks
variable {x : ℕ → Vec Ideal S4096x64 .f32} {w : Vec Ideal S1024x64 .f32}
  {X : ℕ → Fin 4096 → Fin 64 → ℝ} {W : Fin 1024 → Fin 64 → ℝ}

/-- The running sum after the blocks up to the `n`-th is the sum of their least distances. -/
theorem total_eq (n : ℕ) (hx : ∀ s ≤ n, ∀ r j, x s (ix2 r j) = ((X s r j : ℝ) : EReal))
    (hw : ∀ k j, w (ix2 k j) = ((W k j : ℝ) : EReal)) :
    total x w n = ((∑ s : Fin (n + 1), ∑ r, sqDist (X s r) W (first (sqDist (X s r) W)) : ℝ) : EReal) := by
  have step (d : Vec Ideal S4096x1 .f32) (a : Elt Ideal .f32) : k0_pay2 d a = a + ∑ r : Fin 4096, d (ix2 r 0) := by
    pointwise [k0_pay2]
    simp
  induction n with
  | zero =>
    unfold total
    rw [step]
    simp only [least_apply (hx 0 le_rfl) hw, coe_sum]
    have z : (Scalar.ofBits .f32 0x00000000#32 : Ideal .f32) = ((0 : ℝ) : EReal) :=
      Ideal.ofBits_zero_f32.trans EReal.coe_zero.symm
    rw [z]
    refine (EReal.coe_add _ _).symm.trans ?_
    simp
  | succ n ih =>
    unfold total
    rw [step, ih fun s hs => hx s (hs.trans n.le_succ)]
    simp only [least_apply (hx (n + 1) le_rfl) hw, coe_sum]
    rw [← EReal.coe_add, Fin.sum_univ_castSucc (n := n + 1)]
    rfl

/-- The counts after the blocks up to the `n`-th: how many rows have their first nearest one at `k`. -/
theorem counts_apply (n : ℕ) (hx : ∀ s ≤ n, ∀ r j, x s (ix2 r j) = ((X s r j : ℝ) : EReal))
    (hw : ∀ k j, w (ix2 k j) = ((W k j : ℝ) : EReal)) (k : Fin 1024) :
    counts x w n (ix2 0 k)
      = ((∑ s : Fin (n + 1), ∑ r, (if first (sqDist (X s r) W) = k then 1 else 0) : ℝ) : EReal) := by
  have step (h : Vec Ideal S4096x1024 .f32) (q : Vec Ideal S1x1024 .f32) :
      k0_pay3 h q (ix2 0 k) = q (ix2 0 k) + ∑ r : Fin 4096, h (ix2 r k) := by
    pointwise [k0_pay3]
  have start : k0_pay6 (F := Ideal) (ix2 0 k) = ((0 : ℝ) : EReal) := by
    pointwise [k0_pay6]
    exact EReal.coe_zero.symm
  induction n with
  | zero =>
    unfold counts
    rw [step, start]
    simp only [hot_apply (hx 0 le_rfl) hw, coe_sum]
    rw [← EReal.coe_add]
    simp
  | succ n ih =>
    unfold counts
    rw [step, ih fun s hs => hx s (hs.trans n.le_succ)]
    simp only [hot_apply (hx (n + 1) le_rfl) hw, coe_sum]
    rw [← EReal.coe_add, Fin.sum_univ_castSucc (n := n + 1)]
    rfl

end blocks

/-- The loss of the running sum. -/
theorem scaled (a : Elt Ideal .f32) : k0_pay4 a = a * ((1 / 4194304 : ℝ) : EReal) := by
  rw [← lit_2m22]
  rfl

/-- The perplexity of the counts. -/
theorem perplexity_of (q : Vec Ideal S1x1024 .f32) :
    k0_pay5 q = Ideal.exp (-∑ k, q (ix2 0 k) * ((1 / 16384 : ℝ) : EReal)
      * Ideal.log (q (ix2 0 k) * ((1 / 16384 : ℝ) : EReal) + Ideal.ofBits .f32 0x2EDBE6FF#32)) := by
  pointwise [k0_pay5]
  rw [lit_2m14, Finset.sum_const, Finset.card_univ, Fintype.card_fin, one_smul]
  show Ideal.exp _ = _
  rw [← zero_sub]

end Cert.Proof.KernelVal
-- ==== Proof.ArgMin.lean ====
/-
  The reference's choice of the least entry of a row: over real values the fold by its reducer ends at the first row
  that attains the least value, whatever the order of the fold.
-/
module

public import proofs.«01_k».proof.Proof.RefRun
public import proofs.«01_k».proof.Proof.Numbers

@[expose] public section

noncomputable section

namespace Cert.Proof.ArgMin

open Cert.ReferenceIdeal Cert.ReferenceIdeal.Gen Cert.Proof.Numbers
open Idealize.ShloMosaic

/-- A row's value with its number. -/
def entry (f : Fin 1024 → ℝ) (k : Fin 1024) : Ideal .f32 × BitVec 32 := (((f k : ℝ) : EReal), BitVec.ofNat 32 k.val)

/-- The codebook row an entry of the distances belongs to. -/
def lane (i : S16384x1024.Idx) : Fin 1024 := i 1

/-- The reducer keeps its left pair where the value is less, or the same and the number less. -/
theorem reducer_apply (x y : EReal) (p q : BitVec 32) :
    reducer_argmin_f32_i32 (F := Ideal) (x, p) (y, q)
      = (if x < y then x else y, if x < y ∨ (x = y ∧ p.slt q = true) then p else q) := by
  show (Scalar.select (IntOp.ori (BitVec.ofBool (decide (x < y))) (BitVec.ofBool (decide (x ≠ x)))) x y,
    Scalar.select (IntOp.ori (IntOp.ori (BitVec.ofBool (decide (x < y))) (BitVec.ofBool (decide (x ≠ x))))
      (IntOp.andi (BitVec.ofBool (decide (x = y))) (BitVec.ofBool (p.slt q)))) p q) = _
  by_cases h : x < y <;> by_cases g : x = y <;> cases e : p.slt q <;>
    simp [h, g, e, Scalar.select, IntOp.ori, IntOp.andi]

/-- The top with any number gives way to every real value. -/
theorem reducer_top (f : Fin 1024 → ℝ) (p : BitVec 32) (k : Fin 1024) :
    reducer_argmin_f32_i32 (F := Ideal) ((⊤ : EReal), p) (entry f k) = entry f k := by
  unfold entry
  rw [reducer_apply, if_neg not_top_lt, if_neg]
  rintro (h | ⟨h, -⟩)
  · exact not_top_lt h
  · exact EReal.coe_ne_top _ h.symm

/-- Of two rows the reducer keeps one that is chosen before both. -/
theorem reducer_entry (f : Fin 1024 → ℝ) (a b : Fin 1024) :
    ∃ c, reducer_argmin_f32_i32 (F := Ideal) (entry f a) (entry f b) = entry f c ∧ Before f c a ∧ Before f c b := by
  unfold entry
  rw [reducer_apply, word_slt_iff]
  simp only [EReal.coe_lt_coe_iff, EReal.coe_eq_coe_iff, decide_eq_true_eq]
  rcases lt_trichotomy (f a) (f b) with h | h | h
  · exact ⟨a, by rw [if_pos h, if_pos (.inl h)], Before.refl f a, .inl h⟩
  · by_cases g : a < b
    · exact ⟨a, by rw [if_neg h.not_lt, if_pos (.inr ⟨h, g⟩), h], Before.refl f a, .inr ⟨h, g.le⟩⟩
    · refine ⟨b, ?_, .inr ⟨h.symm, not_lt.mp g⟩, Before.refl f b⟩
      rw [if_neg h.not_lt, if_neg]
      rintro (e | ⟨-, e⟩)
      · exact h.not_lt e
      · exact g e
  · refine ⟨b, ?_, .inl h, Before.refl f b⟩
    rw [if_neg h.asymm, if_neg]
    rintro (e | ⟨e, -⟩)
    · exact h.asymm e
    · exact h.ne' e

/-- A fold from a row ends at a row chosen before it and all the rows met. -/
theorem foldl_entry (f : Fin 1024 → ℝ) (l : List (Fin 1024)) (a : Fin 1024) :
    ∃ c, (l.map (entry f)).foldl (reducer_argmin_f32_i32 (F := Ideal)) (entry f a) = entry f c
      ∧ Before f c a ∧ ∀ k ∈ l, Before f c k := by
  induction l generalizing a with
  | nil => exact ⟨a, rfl, Before.refl f a, fun k hk => nomatch hk⟩
  | cons b l ih =>
    obtain ⟨c, hc, ha, hb⟩ := reducer_entry f a b
    obtain ⟨d, hd, hdc, hdl⟩ := ih c
    refine ⟨d, ?_, hdc.trans ha, fun k hk => ?_⟩
    · rw [List.map_cons, List.foldl_cons, hc, hd]
    · rcases List.mem_cons.mp hk with rfl | hk
      · exact hdc.trans hb
      · exact hdl k hk

/-- A fold from the top over a list that meets every row ends at the first least one. -/
theorem foldl_top (f : Fin 1024 → ℝ) (l : List (Fin 1024)) (hl : ∀ k, k ∈ l) (p : BitVec 32) :
    (l.map (entry f)).foldl (reducer_argmin_f32_i32 (F := Ideal)) ((⊤ : EReal), p) = entry f (first f) := by
  cases l with
  | nil => exact nomatch hl 0
  | cons a l =>
    obtain ⟨c, hc, ha, hb⟩ := foldl_entry f l a
    rw [List.map_cons, List.foldl_cons, reducer_top, hc]
    refine congrArg (entry f) (Before.antisymm ?_ (first_before f c))
    rcases List.mem_cons.mp (hl (first f)) with h | h
    · exact h ▸ ha
    · exact hb _ h

/-- The pairs the reduction at row `r` folds over are that row's entries. -/
theorem fiber_eq (D : Vec Ideal S16384x1024 .f32) (r : Fin 16384) (f : Fin 1024 → ℝ)
    (hD : ∀ k, D (ix2 r k) = ((f k : ℝ) : EReal)) :
    ∃ l : List (Fin 1024), (∀ k, k ∈ l) ∧
      Host.argReduceFiber D (iotaInDim S16384x1024 32 1) reducesTo_S16384x1024_S16384_d1 (ix1 r) = l.map (entry f) := by
  have hi (k : Fin 1024) : iotaInDim S16384x1024 32 1 (ix2 r k) = BitVec.ofNat 32 k.val := by pointwise
  refine ⟨((List.finRange S16384x1024.numel).filter fun n =>
      reducesTo_S16384x1024_S16384_d1.drop (S16384x1024.rowMajor.symm n) = ix1 r).map
        fun n => lane (S16384x1024.rowMajor.symm n), fun k => ?_, ?_⟩
  · refine List.mem_map.mpr ⟨S16384x1024.rowMajor (ix2 r k), List.mem_filter.mpr ⟨List.mem_finRange _, ?_⟩, ?_⟩
    · rw [decide_eq_true_eq, Equiv.symm_apply_apply]
      exact (Shape.ReducesTo.fiber_r2_a1 _ _ _).mpr ⟨k, rfl⟩
    · rw [Equiv.symm_apply_apply]
      rfl
  · unfold Host.argReduceFiber
    refine Eq.trans ?_ List.map_map.symm
    refine List.map_congr_left fun n hn => ?_
    have hn := (List.mem_filter.mp hn).2
    rw [decide_eq_true_eq] at hn
    obtain ⟨k, hk⟩ := (Shape.ReducesTo.fiber_r2_a1 _ _ _).mp hn
    have hk : S16384x1024.rowMajor.symm n = ix2 r k := hk.symm
    rw [Function.comp_apply, hk, hD, hi]
    rfl

/-- The reduction of a row of real values: its first least entry. -/
theorem argReduce_row (D : Vec Ideal S16384x1024 .f32) (r : Fin 16384) (f : Fin 1024 → ℝ)
    (hD : ∀ k, D (ix2 r k) = ((f k : ℝ) : EReal)) :
    Host.argReduce (reducer_argmin_f32_i32 (F := Ideal)) D (iotaInDim S16384x1024 32 1)
      (constant S_ .f32 0x7F800000#32) (constantI S_ 32 0#32) reducesTo_S16384x1024_S16384_d1 h_S_ (ix1 r)
      = entry f (first f) := by
  obtain ⟨l, hl, e⟩ := fiber_eq D r f hD
  rw [Ideal.argReduce_eq_reduce2, Host.reduce2_eq_foldl_fiber, e]
  have ht : constant (F := Ideal) S_ .f32 0x7F800000#32 (Shape.Idx.first h_S_) = (⊤ : EReal) := lit_top
  rw [ht]
  exact foldl_top f l hl _

end Cert.Proof.ArgMin
-- ==== Proof.RefVal.lean ====
/-
  What the reference computes over exact real inputs: the distances, the index of the first nearest row, the loss and
  the perplexity.
-/
module

public import proofs.«01_k».proof.Proof.ArgMin
public import Idealize.ShloMosaic.Lib.Pipeline.ValueKit

@[expose] public section

set_option maxRecDepth 16384

noncomputable section

namespace Cert.Proof.RefVal

open Cert.ReferenceIdeal Cert.ReferenceIdeal.Gen Cert.Proof.Numbers
open Idealize.ShloMosaic

/-- The row number of the `b`-th vector of the `a`-th group. -/
def rowOf (a : Fin 16) (b : Fin 1024) : Fin 16384 := ⟨a.val * 1024 + b.val, by have := a.isLt; have := b.isLt; omega⟩

variable {x : Vec Ideal S16x1024x64 .f32} {w : Vec Ideal S1024x64 .f32}
  {X : Fin 16384 → Fin 64 → ℝ} {W : Fin 1024 → Fin 64 → ℝ}

/-- The input rows. -/
theorem rows_apply (hx : ∀ a b j, x (ix3 a b j) = ((X (rowOf a b) j : ℝ) : EReal)) (r : Fin 16384) (j : Fin 64) :
    RefRun.rows x (ix2 r j) = ((X r j : ℝ) : EReal) := by
  have h := r.isLt
  pointwise [RefRun.rows]
  rw [hx]
  congr 3
  exact Fin.ext (by show r.val / 1024 * 1024 + r.val % 1024 = r.val; omega)

/-- The distances. -/
theorem dist_apply (hx : ∀ a b j, x (ix3 a b j) = ((X (rowOf a b) j : ℝ) : EReal))
    (hw : ∀ k j, w (ix2 k j) = ((W k j : ℝ) : EReal)) (r : Fin 16384) (k : Fin 1024) :
    RefRun.dist x w (ix2 r k) = ((sqDist (X r) W k : ℝ) : EReal) := by
  have hr := rows_apply hx r
  unfold RefRun.dist RefRun.zero
  generalize RefRun.rows x = y at *
  pointwise
  simp only [hr, hw, lit_two, ← EReal.coe_mul, coe_sum, ← EReal.coe_add, ← EReal.coe_sub]
  rfl

/-- The index column, spelled out. -/
theorem index_eq : RefRun.index x w = fun j =>
    (Host.argReduce (reducer_argmin_f32_i32 (F := Ideal)) (RefRun.dist x w) (iotaInDim S16384x1024 32 1)
      (constant S_ .f32 0x7F800000#32) (constantI S_ 32 0#32) reducesTo_S16384x1024_S16384_d1 h_S_ j).2 := rfl

/-- The number an arg-min leaves for a row of real values: its first least entry's. -/
theorem index_row (D : Vec Ideal S16384x1024 .f32) (r : Fin 16384) (f : Fin 1024 → ℝ)
    (hD : ∀ k, D (ix2 r k) = ((f k : ℝ) : EReal)) :
    (Host.argReduce (reducer_argmin_f32_i32 (F := Ideal)) D (iotaInDim S16384x1024 32 1)
      (constant S_ .f32 0x7F800000#32) (constantI S_ 32 0#32) reducesTo_S16384x1024_S16384_d1 h_S_ (ix1 r)).2
      = BitVec.ofNat 32 (first f).val := by
  rw [ArgMin.argReduce_row D r f hD]
  unfold ArgMin.entry
  rfl

/-- The index of the first nearest row. -/
theorem index_apply (hx : ∀ a b j, x (ix3 a b j) = ((X (rowOf a b) j : ℝ) : EReal))
    (hw : ∀ k j, w (ix2 k j) = ((W k j : ℝ) : EReal)) (r : Fin 16384) :
    RefRun.index x w (ix1 r) = BitVec.ofNat 32 (first (sqDist (X r) W)).val :=
  (congrFun index_eq (ix1 r)).trans (index_row _ r (sqDist (X r) W) (dist_apply hx hw r))

/-- Comparing an index column with the row of codebook row numbers. -/
theorem marks_apply (I : IVec S16384 32) (r : Fin 16384) (k : Fin 1024) :
    cmpi .eq
      (broadcastInDim S16384x1024 ![0, 1] bcast_S16384x1_S16384x1024_0_1
        (broadcastInDim S16384x1 ![0] bcast_S16384_S16384x1_0 I))
      (broadcastInDim S16384x1024 ![0, 1] bcast_S1x1024_S16384x1024_0_1 (iotaInDim S1x1024 32 1)) (ix2 r k)
      = IntOp.cmpi .eq (I (ix1 r)) (BitVec.ofNat 32 k.val) := by
  pointwise

/-- A comparison of row numbers' words as a real number. -/
theorem mark_number (a b : Fin 1024) :
    FloatOps.uitofp (F := Ideal) .f32 (IntOp.cmpi .eq (BitVec.ofNat 32 a.val) (BitVec.ofNat 32 b.val))
      = (((if a = b then 1 else 0) : ℝ) : EReal) := by
  show ((((BitVec.ofBool (BitVec.ofNat 32 a.val == BitVec.ofNat 32 b.val)).toNat : ℝ)) : EReal) = _
  by_cases h : a = b
  · subst h
    simp
  · have g : ¬ BitVec.ofNat 32 a.val = BitVec.ofNat 32 b.val := fun e => h ((word_eq_iff a b).mp e)
    rw [if_neg h, beq_eq_false_iff_ne.mpr g]
    simp

/-- The one-hot rows. -/
theorem oneHot_apply (hx : ∀ a b j, x (ix3 a b j) = ((X (rowOf a b) j : ℝ) : EReal))
    (hw : ∀ k j, w (ix2 k j) = ((W k j : ℝ) : EReal)) (r : Fin 16384) (k : Fin 1024) :
    RefRun.oneHot x w (ix2 r k) = (((if first (sqDist (X r) W) = k then 1 else 0) : ℝ) : EReal) := by
  have hm := marks_apply (RefRun.index x w) r k
  rw [index_apply hx hw] at hm
  rw [← mark_number, ← hm]
  rfl

/-- The quantized rows less the input. -/
theorem residual_apply (hx : ∀ a b j, x (ix3 a b j) = ((X (rowOf a b) j : ℝ) : EReal))
    (hw : ∀ k j, w (ix2 k j) = ((W k j : ℝ) : EReal)) (a : Fin 16) (b : Fin 1024) (j : Fin 64) :
    RefRun.residual x w (ix3 a b j)
      = ((W (first (sqDist (X (rowOf a b)) W)) j - X (rowOf a b) j : ℝ) : EReal) := by
  have hr (k : Fin 1024) := oneHot_apply hx hw (rowOf a b) k
  unfold rowOf at hr
  unfold RefRun.residual
  generalize RefRun.oneHot x w = h at *
  pointwise
  simp only [hr, hw, hx, ← EReal.coe_mul, coe_sum, ← EReal.coe_sub]
  congr 2
  simp
  rfl

/-- The squared residual of a row sums to its least distance. -/
theorem residual_sq (x : Fin 64 → ℝ) (W : Fin 1024 → Fin 64 → ℝ) (k : Fin 1024) :
    ∑ j, (W k j - x j) * (W k j - x j) = sqDist x W k := by
  unfold sqDist
  rw [Finset.mul_sum, ← Finset.sum_add_distrib, ← Finset.sum_sub_distrib]
  exact Finset.sum_congr rfl fun j _ => by ring

/-- The loss. -/
theorem loss_apply (hx : ∀ a b j, x (ix3 a b j) = ((X (rowOf a b) j : ℝ) : EReal))
    (hw : ∀ k j, w (ix2 k j) = ((W k j : ℝ) : EReal)) (i : S_.Idx) :
    RefRun.loss x w i = lossOf X W := by
  have hr := residual_apply hx hw
  unfold RefRun.loss RefRun.zero
  generalize RefRun.residual x w = d at *
  pointwise
  simp only [hr, lit_quarter, lit_2p20, ← EReal.coe_mul, coe_sum, residual_sq]
  rw [Ideal.div_coe (by norm_num), ← EReal.coe_mul, ← EReal.coe_mul]
  unfold lossOf
  refine congrArg (fun t : ℝ => (t : EReal)) ?_
  rw [show (∑ a, ∑ b, sqDist (X (rowOf a b)) W (first (sqDist (X (rowOf a b)) W)))
      = ∑ r, sqDist (X r) W (first (sqDist (X r) W)) from
    Fin.sum_mul_add_fin 16 1024 (fun r : Fin 16384 => sqDist (X r) W (first (sqDist (X r) W))) rfl]
  generalize (∑ r, sqDist (X r) W (first (sqDist (X r) W))) = t
  ring

/-- The shares of the codebook rows. -/
theorem usage_apply (hx : ∀ a b j, x (ix3 a b j) = ((X (rowOf a b) j : ℝ) : EReal))
    (hw : ∀ k j, w (ix2 k j) = ((W k j : ℝ) : EReal)) (k : Fin 1024) :
    RefRun.usage x w (ix1 k) = ((countOf X W k : ℝ) : EReal) * ((1 / 16384 : ℝ) : EReal) := by
  have hr (r : Fin 16384) := oneHot_apply hx hw r k
  unfold RefRun.usage RefRun.zero
  generalize RefRun.oneHot x w = h at *
  pointwise
  simp only [hr, lit_2p14, coe_sum]
  rw [Ideal.div_coe (by norm_num)]
  rfl

/-- The perplexity. -/
theorem perplexity_apply (hx : ∀ a b j, x (ix3 a b j) = ((X (rowOf a b) j : ℝ) : EReal))
    (hw : ∀ k j, w (ix2 k j) = ((W k j : ℝ) : EReal)) (i : S_.Idx) :
    RefRun.perplexity x w i = perplexityOf X W := by
  have hu := usage_apply hx hw
  unfold RefRun.perplexity RefRun.zero
  generalize RefRun.usage x w = u at *
  pointwise
  simp only [hu]
  rfl

end Cert.Proof.RefVal
-- ==== Proof.Values.lean ====
/-
  The kernel's three results over exact real inputs, in terms of all the input rows.
-/
module

public import proofs.«01_k».proof.Proof.KernelVal
public import proofs.«01_k».proof.Proof.RefVal

@[expose] public section

set_option maxRecDepth 16384

noncomputable section

namespace Cert.Proof.Values

open Cert.KernelIdeal Cert.KernelIdeal.Gen Cert.Proof.Numbers Cert.Proof.Sweep
open Cert.Proof.RefVal (rowOf)
open Idealize.ShloMosaic

/-- The `s`-th block of input rows. -/
def part (X : Fin 16384 → Fin 64 → ℝ) (s : ℕ) (r : Fin 4096) (j : Fin 64) : ℝ :=
  if h : s < 4 then X ⟨s * 4096 + r.val, by have := r.isLt; omega⟩ j else 0

/-- A row of a block as a row of all. -/
theorem part_eq (X : Fin 16384 → Fin 64 → ℝ) (s : Fin 4) (r : Fin 4096) :
    part X s r = X ⟨s.val * 4096 + r.val, by have := r.isLt; have := s.isLt; omega⟩ := by
  funext j
  exact dif_pos s.isLt

/-- The flattened input rows. -/
theorem flat_apply {x : Vec Ideal S16x1024x64 .f32} {X : Fin 16384 → Fin 64 → ℝ}
    (hx : ∀ a b j, x (ix3 a b j) = ((X (rowOf a b) j : ℝ) : EReal)) (r : Fin 16384) (j : Fin 64) :
    shapeCast S16384x64 x shapeCasts_S16x1024x64_S16384x64 (ix2 r j) = ((X r j : ℝ) : EReal) := by
  have h := r.isLt
  pointwise
  rw [hx]
  congr 3
  exact Fin.ext (by show r.val / 1024 * 1024 + r.val % 1024 = r.val; omega)

section
variable {a : Vec Ideal S16384x64 .f32} {w : Vec Ideal S1024x64 .f32}
  {X : Fin 16384 → Fin 64 → ℝ} {W : Fin 1024 → Fin 64 → ℝ}

/-- A block's entries. -/
theorem blockOf_apply (ha : ∀ r j, a (ix2 r j) = ((X r j : ℝ) : EReal)) (s : ℕ) (hs : s < 4) (r : Fin 4096)
    (j : Fin 64) : blockOf a s (ix2 r j) = ((part X s r j : ℝ) : EReal) := by
  unfold blockOf part
  rw [dif_pos hs, dif_pos hs, ← ha]
  exact congrArg a (congrArg (fun k => ix2 k j) (Fin.ext (by show 4096 * s + r.val = s * 4096 + r.val; omega)))

/-- The kernel's loss. -/
theorem loss_eq (ha : ∀ r j, a (ix2 r j) = ((X r j : ℝ) : EReal)) (hw : ∀ k j, w (ix2 k j) = ((W k j : ℝ) : EReal)) :
    k0_pay4 (total (blockOf a) w 3) = lossOf X W := by
  rw [KernelVal.scaled, KernelVal.total_eq 3 (fun s hs => blockOf_apply ha s (by omega)) hw]
  refine (EReal.coe_mul _ _).symm.trans ?_
  unfold lossOf
  simp only [part_eq]
  refine congrArg (fun t : ℝ => ((t * (1 / 4194304) : ℝ) : EReal)) ?_
  exact Fin.sum_mul_add_fin 4 4096 (fun r : Fin 16384 => sqDist (X r) W (first (sqDist (X r) W))) rfl

/-- The kernel's counts. -/
theorem counts_eq (ha : ∀ r j, a (ix2 r j) = ((X r j : ℝ) : EReal)) (hw : ∀ k j, w (ix2 k j) = ((W k j : ℝ) : EReal))
    (k : Fin 1024) : counts (blockOf a) w 3 (ix2 0 k) = ((countOf X W k : ℝ) : EReal) := by
  rw [KernelVal.counts_apply 3 (fun s hs => blockOf_apply ha s (by omega)) hw]
  unfold countOf
  simp only [part_eq]
  refine congrArg (fun t : ℝ => (t : EReal)) ?_
  exact Fin.sum_mul_add_fin 4 4096 (fun r : Fin 16384 => if first (sqDist (X r) W) = k then (1 : ℝ) else 0) rfl

/-- The kernel's perplexity. -/
theorem perplexity_eq (ha : ∀ r j, a (ix2 r j) = ((X r j : ℝ) : EReal))
    (hw : ∀ k j, w (ix2 k j) = ((W k j : ℝ) : EReal)) : k0_pay5 (counts (blockOf a) w 3) = perplexityOf X W := by
  rw [KernelVal.perplexity_of]
  simp only [counts_eq ha hw]
  rfl

/-- The kernel's index of the row `r`. -/
theorem nearest_eq (ha : ∀ r j, a (ix2 r j) = ((X r j : ℝ) : EReal)) (hw : ∀ k j, w (ix2 k j) = ((W k j : ℝ) : EReal))
    (r : Fin 16384) :
    nearest (blockOf a (r.val / 4096)) w (ix2 ⟨r.val % 4096, Nat.mod_lt _ (by decide)⟩ 0)
      = BitVec.ofNat 32 (first (sqDist (X r) W)).val := by
  have h := r.isLt
  have hs : r.val / 4096 < 4 := by omega
  rw [KernelVal.nearest_apply (X := part X (r.val / 4096)) (fun q j => blockOf_apply ha _ hs q j) hw]
  have e : part X (r.val / 4096) ⟨r.val % 4096, Nat.mod_lt _ (by decide)⟩ = X r := by
    refine (part_eq X ⟨r.val / 4096, hs⟩ _).trans (congrArg X (Fin.ext ?_))
    show r.val / 4096 * 4096 + r.val % 4096 = r.val
    omega
  rw [e]

end

end Cert.Proof.Values
-- ==== Proof.Finite.lean ====
/-
  What the precondition says: every entry of both arguments is a real number.
-/
module

public import proofs.«01_k».proof.Defs
public import proofs.«01_k».proof.Proof.Gen.Pre_finite
public import proofs.«01_k».proof.Proof.Numbers
public import Idealize.ShloMosaic.Lib.ReduceAll

@[expose] public section

noncomputable section

namespace Cert.Proof.Finite

open Cert.Pre_finite Cert.Pre_finite.Gen Cert.Proof.Numbers
open Idealize.ShloMosaic

/-- A value whose magnitude is below the top is a real number. -/
theorem real_of_lt (v : EReal) (h : BitVec.ofBool (decide (max v (-v) < Ideal.ofBits .f32 0x7F800000#32)) = 1#1) :
    ∃ r : ℝ, v = (r : EReal) := by
  rw [lit_top] at h
  have h : max v (-v) < ⊤ := by
    by_contra g
    rw [decide_eq_false g] at h
    exact absurd h (by decide)
  induction v with
  | bot => simp at h
  | top => simp at h
  | coe r => exact ⟨r, rfl⟩

/-- Where the precondition holds, every entry of both arguments is a real number. -/
theorem entries (x : FVec Ideal S16x1024x64 .f32) (w : FVec Ideal S1024x64 .f32)
    (h : Cert.Pre_finite.fn (F := Ideal) x w = fun _ => 1#1) :
    (∀ i, ∃ r : ℝ, x i = (r : EReal)) ∧ ∀ i, ∃ r : ℝ, w i = (r : EReal) := by
  have : Subsingleton S_.Idx := ⟨fun a b => funext fun k => k.elim0⟩
  have e := congrFun h (fun k => k.elim0)
  unfold Cert.Pre_finite.fn at e
  obtain ⟨e₁, e₂⟩ := IntOp.andi_eq_one.1 e
  exact ⟨fun i => real_of_lt _ (Host.reduce_andi_all _ _ _ _ _ e₁ i),
    fun i => real_of_lt _ (Host.reduce_andi_all _ _ _ _ _ e₂ i)⟩

end Cert.Proof.Finite
-- ==== Proof.lean ====
/-
  The proof of the claims: the frames of the kernel, of its idealization and of the reference, and that over exact
  real inputs the kernel's loss, indices and perplexity are the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import Idealize.ShloMosaic.Adequacy
public import Idealize.ShloMosaic.Init
public import proofs.«01_k».proof.Proof.Sweep
public import proofs.«01_k».proof.Proof.RefRun
public import proofs.«01_k».proof.Proof.Values
public import proofs.«01_k».proof.Proof.Finite
public import Idealize.ShloMosaic.Lib.Claim

@[expose] public section

noncomputable section

namespace Cert.Proof

open Idealize.ShloMosaic Idealize.SL.Sem
open Cert.Proof.Numbers Cert.Proof.RefVal

/-- Where every entry of both arguments is a real number, the kernel's results are the reference's. -/
theorem results_eq (x : Vec Ideal Cert.KernelIdeal.S16x1024x64 .f32) (w : Vec Ideal Cert.KernelIdeal.S1024x64 .f32)
    (hx : ∀ i, ∃ r : ℝ, x i = (r : EReal)) (hw : ∀ i, ∃ r : ℝ, w i = (r : EReal))
    (a : Vec Ideal Cert.KernelIdeal.S16384x64 .f32)
    (ha : a = shapeCast Cert.KernelIdeal.S16384x64 x Cert.KernelIdeal.Gen.shapeCasts_S16x1024x64_S16384x64) :
    (∀ i, RefRun.loss x w i = Cert.KernelIdeal.Gen.k0_pay4 (Sweep.total (Sweep.blockOf a) w 3)) ∧
    (∀ r : Fin 16384, RefRun.index x w (ix1 r)
      = Sweep.nearest (Sweep.blockOf a (r.val / 4096)) w (ix2 ⟨r.val % 4096, Nat.mod_lt _ (by decide)⟩ 0)) ∧
    (∀ i, RefRun.perplexity x w i = Cert.KernelIdeal.Gen.k0_pay5 (Sweep.counts (Sweep.blockOf a) w 3)) := by
  choose X' hX' using hx
  choose W' hW' using hw
  obtain ⟨X, hX⟩ : ∃ X : Fin 16384 → Fin 64 → ℝ, ∀ a b j, x (ix3 a b j) = ((X (rowOf a b) j : ℝ) : EReal) := by
    refine ⟨fun r j => X' (ix3 (⟨r.val / 1024, by have := r.isLt; omega⟩ : Fin 16)
      (⟨r.val % 1024, Nat.mod_lt _ (by decide)⟩ : Fin 1024) j), ?_⟩
    intro a b j
    have hb := b.isLt
    rw [hX']
    refine congrArg (fun i => ((X' i : ℝ) : EReal)) ?_
    have e₁ : a = (⟨(rowOf a b).val / 1024, by have := (rowOf a b).isLt; omega⟩ : Fin 16) :=
      Fin.ext (by show a.val = (a.val * 1024 + b.val) / 1024; omega)
    have e₂ : b = (⟨(rowOf a b).val % 1024, Nat.mod_lt _ (by decide)⟩ : Fin 1024) :=
      Fin.ext (by show b.val = (a.val * 1024 + b.val) % 1024; omega)
    exact congrArg₂ (fun p q => ix3 p q j) e₁ e₂
  obtain ⟨W, hW⟩ : ∃ W : Fin 1024 → Fin 64 → ℝ, ∀ k j, w (ix2 k j) = ((W k j : ℝ) : EReal) :=
    ⟨fun k j => W' (ix2 k j), fun k j => hW' _⟩
  have hF := Values.flat_apply hX
  rw [← ha] at hF
  exact ⟨fun i => (loss_apply hX hW i).trans (Values.loss_eq hF hW).symm,
    fun r => (index_apply hX hW r).trans (Values.nearest_eq hF hW r).symm,
    fun i => (perplexity_apply hX hW i).trans (Values.perplexity_eq hF hW).symm⟩

/-- The claims. -/
theorem claim : Cert.Claim := ⟨Cert.Kernel.Gen.facts, Cert.KernelIdeal.Gen.facts, Cert.ReferenceIdeal.Gen.facts, Cert.Pre_finite.Gen.facts, by
  refine ⟨fun m g _ => Cert.Kernel.Gen.frame m g, fun m g _ => Cert.KernelIdeal.Gen.frame m g,
    fun m g _ => Cert.KernelIdeal.Gen.frame m g, fun m g _ => RefRun.frame m g, fun m g _ => RefRun.frame m g,
    trivial, ?_⟩
  intro m g m' g' hpre hagree
  refine ⟨_, _, _, Sweep.run m g, ?_⟩
  refine θ_run_mono (RefRun.run m' g') fun r h c => ?_
  obtain ⟨h₁, h₂, h₃, h₄, h₅⟩ := h c
  obtain ⟨hx, hw⟩ := Finite.entries _ _ (hpre c)
  obtain ⟨e₁, e₂, e₃⟩ := results_eq _ _ hx hw _ (Sweep.rows_eq m c)
  rw [(hagree c).1, (hagree c).2] at h₁ h₂ h₃
  rw [Sweep.book_eq]
  refine ⟨h₁.trans (funext e₁), h₂.trans (funext fun i => ?_), h₃.trans (funext e₃), h₄, h₅⟩
  rw [show i = ix1 (i 0) from funext fun k => by match k with | ⟨0, _⟩ => rfl]
  exact e₂ (i 0)⟩

end Cert.Proof

end
